-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S1023x512 : Shape := ⟨2, ![1023, 512]⟩
abbrev S_ : Shape := ⟨0, ![]⟩
abbrev S1016x512 : Shape := ⟨2, ![1016, 512]⟩
abbrev S1x1016x512 : Shape := ⟨3, ![1, 1016, 512]⟩
abbrev S8x1016x512 : Shape := ⟨3, ![8, 1016, 512]⟩
abbrev S512x512x512 : Shape := ⟨3, ![512, 512, 512]⟩
abbrev S512x512 : Shape := ⟨2, ![512, 512]⟩

abbrev nBuf : Space → Nat
  | .hbm => 36
  | .vmem => 1
  | .smem => 0
  | _ => 0

abbrev bufTy : (tb : Table) → Fin (tcTables nBuf tb) → BufTy
  | .hbm, ⟨0, _⟩ => ⟨S1x512x512, .f32⟩
  | .hbm, ⟨1, _⟩ => ⟨S1023x512, .f32⟩
  | .hbm, ⟨2, _⟩ => ⟨S_, .i32⟩
  | .hbm, ⟨3, _⟩ => ⟨S_, .i32⟩
  | .hbm, ⟨4, _⟩ => ⟨S1016x512, .f32⟩
  | .hbm, ⟨5, _⟩ => ⟨S_, .i32⟩
  | .hbm, ⟨6, _⟩ => ⟨S_, .i32⟩
  | .hbm, ⟨7, _⟩ => ⟨S1016x512, .f32⟩
  | .hbm, ⟨8, _⟩ => ⟨S_, .i32⟩
  | .hbm, ⟨9, _⟩ => ⟨S_, .i32⟩
  | .hbm, ⟨10, _⟩ => ⟨S1016x512, .f32⟩
  | .hbm, ⟨11, _⟩ => ⟨S_, .i32⟩
  | .hbm, ⟨12, _⟩ => ⟨S_, .i32⟩
  | .hbm, ⟨13, _⟩ => ⟨S1016x512, .f32⟩
  | .hbm, ⟨14, _⟩ => ⟨S_, .i32⟩
  | .hbm, ⟨15, _⟩ => ⟨S_, .i32⟩
  | .hbm, ⟨16, _⟩ => ⟨S1016x512, .f32⟩
  | .hbm, ⟨17, _⟩ => ⟨S_, .i32⟩
  | .hbm, ⟨18, _⟩ => ⟨S_, .i32⟩
  | .hbm, ⟨19, _⟩ => ⟨S1016x512, .f32⟩
  | .hbm, ⟨20, _⟩ => ⟨S_, .i32⟩
  | .hbm, ⟨21, _⟩ => ⟨S_, .i32⟩
  | .hbm, ⟨22, _⟩ => ⟨S1016x512, .f32⟩
  | .hbm, ⟨23, _⟩ => ⟨S_, .i32⟩
  | .hbm, ⟨24, _⟩ => ⟨S_, .i32⟩
  | .hbm, ⟨25, _⟩ => ⟨S1016x512, .f32⟩
  | .hbm, ⟨26, _⟩ => ⟨S1x1016x512, .f32⟩
  | .hbm, ⟨27, _⟩ => ⟨S1x1016x512, .f32⟩
  | .hbm, ⟨28, _⟩ => ⟨S1x1016x512, .f32⟩
  | .hbm, ⟨29, _⟩ => ⟨S1x1016x512, .f32⟩
  | .hbm, ⟨30, _⟩ => ⟨S1x1016x512, .f32⟩
  | .hbm, ⟨31, _⟩ => ⟨S1x1016x512, .f32⟩
  | .hbm, ⟨32, _⟩ => ⟨S1x1016x512, .f32⟩
  | .hbm, ⟨33, _⟩ => ⟨S1x1016x512, .f32⟩
  | .hbm, ⟨34, _⟩ => ⟨S8x1016x512, .f32⟩
  | .hbm, ⟨35, _⟩ => ⟨S512x512x512, .f32⟩
  | .local _ .vmem, ⟨0, _⟩ => ⟨S8x1016x512, .f32⟩
  | _, _ => ⟨S1x512x512, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_c_2 : Ref sig .tc := ⟨.hbm, 6, rfl⟩
abbrev main_v1 : Ref sig .tc := ⟨.hbm, 7, rfl⟩
abbrev main_c_3 : Ref sig .tc := ⟨.hbm, 8, rfl⟩
abbrev main_c_4 : Ref sig .tc := ⟨.hbm, 9, rfl⟩
abbrev main_v2 : Ref sig .tc := ⟨.hbm, 10, rfl⟩
abbrev main_c_5 : Ref sig .tc := ⟨.hbm, 11, rfl⟩
abbrev main_c_6 : Ref sig .tc := ⟨.hbm, 12, rfl⟩
abbrev main_v3 : Ref sig .tc := ⟨.hbm, 13, rfl⟩
abbrev main_c_7 : Ref sig .tc := ⟨.hbm, 14, rfl⟩
abbrev main_c_8 : Ref sig .tc := ⟨.hbm, 15, rfl⟩
abbrev main_v4 : Ref sig .tc := ⟨.hbm, 16, rfl⟩
abbrev main_c_9 : Ref sig .tc := ⟨.hbm, 17, rfl⟩
abbrev main_c_10 : Ref sig .tc := ⟨.hbm, 18, rfl⟩
abbrev main_v5 : Ref sig .tc := ⟨.hbm, 19, rfl⟩
abbrev main_c_11 : Ref sig .tc := ⟨.hbm, 20, rfl⟩
abbrev main_c_12 : Ref sig .tc := ⟨.hbm, 21, rfl⟩
abbrev main_v6 : Ref sig .tc := ⟨.hbm, 22, rfl⟩
abbrev main_c_13 : Ref sig .tc := ⟨.hbm, 23, rfl⟩
abbrev main_c_14 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_mult1 (k0_t1 : Fin k0_t1_loop.trips) : BitVec 32 :=
  let c63_i32 : BitVec 32 := 63#32
  let c0_i32 : BitVec 32 := 0#32
  let c1_i32 : BitVec 32 := 1#32
  let arg3 : BitVec 32 := Scf.iv c0_i32 c1_i32 k0_t1
  let v9 : BitVec 32 := Scalar.subi c63_i32 arg3
  let c8_i32 : BitVec 32 := 8#32
  let v10 : BitVec 32 := Scalar.muli v9 c8_i32
  v10
def k0_off1 (k0_t1 : Fin k0_t1_loop.trips) : Fin 3 → Nat :=
  let c8_i32_31 : BitVec 32 := 8#32
  let c0_i32 : BitVec 32 := 0#32
  let c1_i32 : BitVec 32 := 1#32
  let arg3 : BitVec 32 := Scf.iv c0_i32 c1_i32 k0_t1
  let v12 : BitVec 32 := Scalar.muli c8_i32_31 arg3
  let c0_i32_32 : BitVec 32 := 0#32
  let v13 : BitVec 32 := Scalar.addi v12 c0_i32_32
  let c0_i32_33 : BitVec 32 := 0#32
  let c0_i32_34 : BitVec 32 := 0#32
  ![v13.toNat, 0, 0]
def k0_off2 (k0_t1 : Fin k0_t1_loop.trips) : Fin 3 → Nat :=
  let c7_i32 : BitVec 32 := 7#32
  let c63_i32 : BitVec 32 := 63#32
  let c0_i32 : BitVec 32 := 0#32
  let c1_i32 : BitVec 32 := 1#32
  let arg3 : BitVec 32 := Scf.iv c0_i32 c1_i32 k0_t1
  let v9 : BitVec 32 := Scalar.subi c63_i32 arg3
  let c8_i32 : BitVec 32 := 8#32
  let v10 : BitVec 32 := Scalar.muli v9 c8_i32
  let v11 : BitVec 32 := v10
  let c0_i32_35 : BitVec 32 := 0#32
  ![7, v11.toNat, 0]
@[reducible] def k0_t2_loop : Scf.Loop 32 :=
  let c0_i32_1 : BitVec 32 := 0#32
  let c64_i32_2 : BitVec 32 := 64#32
  let v1 : BitVec 32 := Scalar.addi c0_i32_1 c64_i32_2
  let c1_i32_3 : BitVec 32 := 1#32
  ⟨c0_i32_1, v1, c1_i32_3⟩
def k0_mult2 (k0_t2 : Fin k0_t2_loop.trips) : BitVec 32 :=
  let c63_i32 : BitVec 32 := 63#32
  let c0_i32_1 : BitVec 32 := 0#32
  let c1_i32_3 : BitVec 32 := 1#32
  let arg3 : BitVec 32 := Scf.iv c0_i32_1 c1_i32_3 k0_t2
  let v9 : BitVec 32 := Scalar.subi c63_i32 arg3
  let c8_i32 : BitVec 32 := 8#32
  let v10 : BitVec 32 := Scalar.muli v9 c8_i32
  v10
def k0_off3 (k0_t2 : Fin k0_t2_loop.trips) : Fin 3 → Nat :=
  let c8_i32_31 : BitVec 32 := 8#32
  let c0_i32_1 : BitVec 32 := 0#32
  let c1_i32_3 : BitVec 32 := 1#32
  let arg3 : BitVec 32 := Scf.iv c0_i32_1 c1_i32_3 k0_t2
  let v12 : BitVec 32 := Scalar.muli c8_i32_31 arg3
  let c1_i32_32 : BitVec 32 := 1#32
  let v13 : BitVec 32 := Scalar.addi v12 c1_i32_32
  let c0_i32_33 : BitVec 32 := 0#32
  let c0_i32_34 : BitVec 32 := 0#32
  ![v13.toNat, 0, 0]
def k0_off4 (k0_t2 : Fin k0_t2_loop.trips) : Fin 3 → Nat :=
  let c6_i32 : BitVec 32 := 6#32
  let c63_i32 : BitVec 32 := 63#32
  let c0_i32_1 : BitVec 32 := 0#32
  let c1_i32_3 : BitVec 32 := 1#32
  let arg3 : BitVec 32 := Scf.iv c0_i32_1 c1_i32_3 k0_t2
  let v9 : BitVec 32 := Scalar.subi c63_i32 arg3
  let c8_i32 : BitVec 32 := 8#32
  let v10 : BitVec 32 := Scalar.muli v9 c8_i32
  let v11 : BitVec 32 := v10
  let c0_i32_35 : BitVec 32 := 0#32
  ![6, v11.toNat, 0]
@[reducible] def k0_t3_loop : Scf.Loop 32 :=
  let c0_i32_5 : BitVec 32 := 0#32
  let c64_i32_6 : BitVec 32 := 64#32
  let v2 : BitVec 32 := Scalar.addi c0_i32_5 c64_i32_6
  let c1_i32_7 : BitVec 32 := 1#32
  ⟨c0_i32_5, v2, c1_i32_7⟩
def k0_mult3 (k0_t3 : Fin k0_t3_loop.trips) : BitVec 32 :=
  let c63_i32 : BitVec 32 := 63#32
  let c0_i32_5 : BitVec 32 := 0#32
  let c1_i32_7 : BitVec 32 := 1#32
  let arg3 : BitVec 32 := Scf.iv c0_i32_5 c1_i32_7 k0_t3
  let v9 : BitVec 32 := Scalar.subi c63_i32 arg3
  let c8_i32 : BitVec 32 := 8#32
  let v10 : BitVec 32 := Scalar.muli v9 c8_i32
  v10
def k0_off5 (k0_t3 : Fin k0_t3_loop.trips) : Fin 3 → Nat :=
  let c8_i32_31 : BitVec 32 := 8#32
  let c0_i32_5 : BitVec 32 := 0#32
  let c1_i32_7 : BitVec 32 := 1#32
  let arg3 : BitVec 32 := Scf.iv c0_i32_5 c1_i32_7 k0_t3
  let v12 : BitVec 32 := Scalar.muli c8_i32_31 arg3
  let c2_i32 : BitVec 32 := 2#32
  let v13 : BitVec 32 := Scalar.addi v12 c2_i32
  let c0_i32_32 : BitVec 32 := 0#32
  let c0_i32_33 : BitVec 32 := 0#32
  ![v13.toNat, 0, 0]
def k0_off6 (k0_t3 : Fin k0_t3_loop.trips) : Fin 3 → Nat :=
  let c5_i32 : BitVec 32 := 5#32
  let c63_i32 : BitVec 32 := 63#32
  let c0_i32_5 : BitVec 32 := 0#32
  let c1_i32_7 : BitVec 32 := 1#32
  let arg3 : BitVec 32 := Scf.iv c0_i32_5 c1_i32_7 k0_t3
  let v9 : BitVec 32 := Scalar.subi c63_i32 arg3
  let c8_i32 : BitVec 32 := 8#32
  let v10 : BitVec 32 := Scalar.muli v9 c8_i32
  let v11 : BitVec 32 := v10
  let c0_i32_34 : BitVec 32 := 0#32
  ![5, v11.toNat, 0]
@[reducible] def k0_t4_loop : Scf.Loop 32 :=
  let c0_i32_9 : BitVec 32 := 0#32
  let c64_i32_10 : BitVec 32 := 64#32
  let v3 : BitVec 32 := Scalar.addi c0_i32_9 c64_i32_10
  let c1_i32_11 : BitVec 32 := 1#32
  ⟨c0_i32_9, v3, c1_i32_11⟩
def k0_mult4 (k0_t4 : Fin k0_t4_loop.trips) : BitVec 32 :=
  let c63_i32 : BitVec 32 := 63#32
  let c0_i32_9 : BitVec 32 := 0#32
  let c1_i32_11 : BitVec 32 := 1#32
  let arg3 : BitVec 32 := Scf.iv c0_i32_9 c1_i32_11 k0_t4
  let v9 : BitVec 32 := Scalar.subi c63_i32 arg3
  let c8_i32 : BitVec 32 := 8#32
  let v10 : BitVec 32 := Scalar.muli v9 c8_i32
  v10
def k0_off7 (k0_t4 : Fin k0_t4_loop.trips) : Fin 3 → Nat :=
  let c8_i32_31 : BitVec 32 := 8#32
  let c0_i32_9 : BitVec 32 := 0#32
  let c1_i32_11 : BitVec 32 := 1#32
  let arg3 : BitVec 32 := Scf.iv c0_i32_9 c1_i32_11 k0_t4
  let v12 : BitVec 32 := Scalar.muli c8_i32_31 arg3
  let c3_i32 : BitVec 32 := 3#32
  let v13 : BitVec 32 := Scalar.addi v12 c3_i32
  let c0_i32_32 : BitVec 32 := 0#32
  let c0_i32_33 : BitVec 32 := 0#32
  ![v13.toNat, 0, 0]
def k0_off8 (k0_t4 : Fin k0_t4_loop.trips) : Fin 3 → Nat :=
  let c4_i32 : BitVec 32 := 4#32
  let c63_i32 : BitVec 32 := 63#32
  let c0_i32_9 : BitVec 32 := 0#32
  let c1_i32_11 : BitVec 32 := 1#32
  let arg3 : BitVec 32 := Scf.iv c0_i32_9 c1_i32_11 k0_t4
  let v9 : BitVec 32 := Scalar.subi c63_i32 arg3
  let c8_i32 : BitVec 32 := 8#32
  let v10 : BitVec 32 := Scalar.muli v9 c8_i32
  let v11 : BitVec 32 := v10
  let c0_i32_34 : BitVec 32 := 0#32
  ![4, v11.toNat, 0]
@[reducible] def k0_t5_loop : Scf.Loop 32 :=
  let c0_i32_13 : BitVec 32 := 0#32
  let c64_i32_14 : BitVec 32 := 64#32
  let v4 : BitVec 32 := Scalar.addi c0_i32_13 c64_i32_14
  let c1_i32_15 : BitVec 32 := 1#32
  ⟨c0_i32_13, v4, c1_i32_15⟩
def k0_mult5 (k0_t5 : Fin k0_t5_loop.trips) : BitVec 32 :=
  let c63_i32 : BitVec 32 := 63#32
  let c0_i32_13 : BitVec 32 := 0#32
  let c1_i32_15 : BitVec 32 := 1#32
  let arg3 : BitVec 32 := Scf.iv c0_i32_13 c1_i32_15 k0_t5
  let v9 : BitVec 32 := Scalar.subi c63_i32 arg3
  let c8_i32 : BitVec 32 := 8#32
  let v10 : BitVec 32 := Scalar.muli v9 c8_i32
  v10
def k0_off9 (k0_t5 : Fin k0_t5_loop.trips) : Fin 3 → Nat :=
  let c8_i32_31 : BitVec 32 := 8#32
  let c0_i32_13 : BitVec 32 := 0#32
  let c1_i32_15 : BitVec 32 := 1#32
  let arg3 : BitVec 32 := Scf.iv c0_i32_13 c1_i32_15 k0_t5
  let v12 : BitVec 32 := Scalar.muli c8_i32_31 arg3
  let c4_i32 : BitVec 32 := 4#32
  let v13 : BitVec 32 := Scalar.addi v12 c4_i32
  let c0_i32_32 : BitVec 32 := 0#32
  let c0_i32_33 : BitVec 32 := 0#32
  ![v13.toNat, 0, 0]
def k0_off10 (k0_t5 : Fin k0_t5_loop.trips) : Fin 3 → Nat :=
  let c3_i32 : BitVec 32 := 3#32
  let c63_i32 : BitVec 32 := 63#32
  let c0_i32_13 : BitVec 32 := 0#32
  let c1_i32_15 : BitVec 32 := 1#32
  let arg3 : BitVec 32 := Scf.iv c0_i32_13 c1_i32_15 k0_t5
  let v9 : BitVec 32 := Scalar.subi c63_i32 arg3
  let c8_i32 : BitVec 32 := 8#32
  let v10 : BitVec 32 := Scalar.muli v9 c8_i32
  let v11 : BitVec 32 := v10
  let c0_i32_34 : BitVec 32 := 0#32
  ![3, v11.toNat, 0]
@[reducible] def k0_t6_loop : Scf.Loop 32 :=
  let c0_i32_17 : BitVec 32 := 0#32
  let c64_i32_18 : BitVec 32 := 64#32
  let v5 : BitVec 32 := Scalar.addi c0_i32_17 c64_i32_18
  let c1_i32_19 : BitVec 32 := 1#32
  ⟨c0_i32_17, v5, c1_i32_19⟩
def k0_mult6 (k0_t6 : Fin k0_t6_loop.trips) : BitVec 32 :=
  let c63_i32 : BitVec 32 := 63#32
  let c0_i32_17 : BitVec 32 := 0#32
  let c1_i32_19 : BitVec 32 := 1#32
  let arg3 : BitVec 32 := Scf.iv c0_i32_17 c1_i32_19 k0_t6
  let v9 : BitVec 32 := Scalar.subi c63_i32 arg3
  let c8_i32 : BitVec 32 := 8#32
  let v10 : BitVec 32 := Scalar.muli v9 c8_i32
  v10
def k0_off11 (k0_t6 : Fin k0_t6_loop.trips) : Fin 3 → Nat :=
  let c8_i32_31 : BitVec 32 := 8#32
  let c0_i32_17 : BitVec 32 := 0#32
  let c1_i32_19 : BitVec 32 := 1#32
  let arg3 : BitVec 32 := Scf.iv c0_i32_17 c1_i32_19 k0_t6
  let v12 : BitVec 32 := Scalar.muli c8_i32_31 arg3
  let c5_i32 : BitVec 32 := 5#32
  let v13 : BitVec 32 := Scalar.addi v12 c5_i32
  let c0_i32_32 : BitVec 32 := 0#32
  let c0_i32_33 : BitVec 32 := 0#32
  ![v13.toNat, 0, 0]
def k0_off12 (k0_t6 : Fin k0_t6_loop.trips) : Fin 3 → Nat :=
  let c2_i32 : BitVec 32 := 2#32
  let c63_i32 : BitVec 32 := 63#32
  let c0_i32_17 : BitVec 32 := 0#32
  let c1_i32_19 : BitVec 32 := 1#32
  let arg3 : BitVec 32 := Scf.iv c0_i32_17 c1_i32_19 k0_t6
  let v9 : BitVec 32 := Scalar.subi c63_i32 arg3
  let c8_i32 : BitVec 32 := 8#32
  let v10 : BitVec 32 := Scalar.muli v9 c8_i32
  let v11 : BitVec 32 := v10
  let c0_i32_34 : BitVec 32 := 0#32
  ![2, v11.toNat, 0]
@[reducible] def k0_t7_loop : Scf.Loop 32 :=
  let c0_i32_21 : BitVec 32 := 0#32
  let c64_i32_22 : BitVec 32 := 64#32
  let v6 : BitVec 32 := Scalar.addi c0_i32_21 c64_i32_22
  let c1_i32_23 : BitVec 32 := 1#32
  ⟨c0_i32_21, v6, c1_i32_23⟩
def k0_mult7 (k0_t7 : Fin k0_t7_loop.trips) : BitVec 32 :=
  let c63_i32 : BitVec 32 := 63#32
  let c0_i32_21 : BitVec 32 := 0#32
  let c1_i32_23 : BitVec 32 := 1#32
  let arg3 : BitVec 32 := Scf.iv c0_i32_21 c1_i32_23 k0_t7
  let v9 : BitVec 32 := Scalar.subi c63_i32 arg3
  let c8_i32 : BitVec 32 := 8#32
  let v10 : BitVec 32 := Scalar.muli v9 c8_i32
  v10
def k0_off13 (k0_t7 : Fin k0_t7_loop.trips) : Fin 3 → Nat :=
  let c8_i32_31 : BitVec 32 := 8#32
  let c0_i32_21 : BitVec 32 := 0#32
  let c1_i32_23 : BitVec 32 := 1#32
  let arg3 : BitVec 32 := Scf.iv c0_i32_21 c1_i32_23 k0_t7
  let v12 : BitVec 32 := Scalar.muli c8_i32_31 arg3
  let c6_i32 : BitVec 32 := 6#32
  let v13 : BitVec 32 := Scalar.addi v12 c6_i32
  let c0_i32_33 : BitVec 32 := 0#32
  let c0_i32_34 : BitVec 32 := 0#32
  ![v13.toNat, 0, 0]
def k0_off14 (k0_t7 : Fin k0_t7_loop.trips) : Fin 3 → Nat :=
  let c1_i32_32 : BitVec 32 := 1#32
  let c63_i32 : BitVec 32 := 63#32
  let c0_i32_21 : BitVec 32 := 0#32
  let c1_i32_23 : BitVec 32 := 1#32
  let arg3 : BitVec 32 := Scf.iv c0_i32_21 c1_i32_23 k0_t7
  let v9 : BitVec 32 := Scalar.subi c63_i32 arg3
  let c8_i32 : BitVec 32 := 8#32
  let v10 : BitVec 32 := Scalar.muli v9 c8_i32
  let v11 : BitVec 32 := v10
  let c0_i32_35 : BitVec 32 := 0#32
  ![1, v11.toNat, 0]
@[reducible] def k0_t8_loop : Scf.Loop 32 :=
  let c0_i32_25 : BitVec 32 := 0#32
  let c64_i32_26 : BitVec 32 := 64#32
  let v7 : BitVec 32 := Scalar.addi c0_i32_25 c64_i32_26
  let c1_i32_27 : BitVec 32 := 1#32
  ⟨c0_i32_25, v7, c1_i32_27⟩
def k0_mult8 (k0_t8 : Fin k0_t8_loop.trips) : BitVec 32 :=
  let c63_i32 : BitVec 32 := 63#32
  let c0_i32_25 : BitVec 32 := 0#32
  let c1_i32_27 : BitVec 32 := 1#32
  let arg3 : BitVec 32 := Scf.iv c0_i32_25 c1_i32_27 k0_t8
  let v9 : BitVec 32 := Scalar.subi c63_i32 arg3
  let c8_i32 : BitVec 32 := 8#32
  let v10 : BitVec 32 := Scalar.muli v9 c8_i32
  v10
def k0_off15 (k0_t8 : Fin k0_t8_loop.trips) : Fin 3 → Nat :=
  let c8_i32_31 : BitVec 32 := 8#32
  let c0_i32_25 : BitVec 32 := 0#32
  let c1_i32_27 : BitVec 32 := 1#32
  let arg3 : BitVec 32 := Scf.iv c0_i32_25 c1_i32_27 k0_t8
  let v12 : BitVec 32 := Scalar.muli c8_i32_31 arg3
  let c7_i32 : BitVec 32 := 7#32
  let v13 : BitVec 32 := Scalar.addi v12 c7_i32
  let c0_i32_33 : BitVec 32 := 0#32
  let c0_i32_34 : BitVec 32 := 0#32
  ![v13.toNat, 0, 0]
def k0_off16 (k0_t8 : Fin k0_t8_loop.trips) : Fin 3 → Nat :=
  let c0_i32_32 : BitVec 32 := 0#32
  let c63_i32 : BitVec 32 := 63#32
  let c0_i32_25 : BitVec 32 := 0#32
  let c1_i32_27 : BitVec 32 := 1#32
  let arg3 : BitVec 32 := Scf.iv c0_i32_25 c1_i32_27 k0_t8
  let v9 : BitVec 32 := Scalar.subi c63_i32 arg3
  let c8_i32 : BitVec 32 := 8#32
  let v10 : BitVec 32 := Scalar.muli v9 c8_i32
  let v11 : BitVec 32 := v10
  let c0_i32_35 : BitVec 32 := 0#32
  ![0, v11.toNat, 0]
@[reducible] def k0_t9_loop : Scf.Loop 32 :=
  let c0_i32_29 : BitVec 32 := 0#32
  let c512_i32 : BitVec 32 := 512#32
  let v8 : BitVec 32 := Scalar.addi c0_i32_29 c512_i32
  let c1_i32_30 : BitVec 32 := 1#32
  ⟨c0_i32_29, v8, c1_i32_30⟩
abbrev stage0_0 : Fin 1 → Memref sig .tc .vmem S8x1016x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1x512x512 : Shape := ⟨3, ![1, 512, 512]⟩
abbrev S1023x512 : Shape := ⟨2, ![1023, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S_ : Shape := ⟨0, ![]⟩
abbrev S512x512x1 : Shape := ⟨3, ![512, 512, 1]⟩
abbrev S1 : Shape := ⟨1, ![1]⟩
abbrev S1x1x1 : Shape := ⟨3, ![1, 1, 1]⟩
abbrev S512x512x512 : Shape := ⟨3, ![512, 512, 512]⟩

abbrev nBuf : Space → Nat
  | .hbm => 37
  | .vmem => 0
  | .smem => 0
  | _ => 0

abbrev bufTy : (tb : Table) → Fin (tcTables nBuf tb) → BufTy
  | .hbm, ⟨0, _⟩ => ⟨S1x512x512, .f32⟩
  | .hbm, ⟨1, _⟩ => ⟨S1023x512, .f32⟩
  | .hbm, ⟨2, _⟩ => ⟨S512, .i32⟩
  | .hbm, ⟨3, _⟩ => ⟨S1x512, .i32⟩
  | .hbm, ⟨4, _⟩ => ⟨S512x1, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S512x512, .i1⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S512x512, .i32⟩
  | .hbm, ⟨21, _⟩ => ⟨S512x512x1, .i32⟩
  | .hbm, ⟨22, _⟩ => ⟨S1, .i32⟩
  | .hbm, ⟨23, _⟩ => ⟨S_, .i32⟩
  | .hbm, ⟨24, _⟩ => ⟨S512x512x1, .i32⟩
  | .hbm, ⟨25, _⟩ => ⟨S512x512x1, .i1⟩
  | .hbm, ⟨26, _⟩ => ⟨S1x1x1, .i32⟩
  | .hbm, ⟨27, _⟩ => ⟨S512x512x1, .i32⟩
  | .hbm, ⟨28, _⟩ => ⟨S512x512x1, .i1⟩
  | .hbm, ⟨29, _⟩ => ⟨S512x512x1, .i1⟩
  | .hbm, ⟨30, _⟩ => ⟨S_, .i1⟩
  | .hbm, ⟨31, _⟩ => ⟨S512x512, .i1⟩
  | .hbm, ⟨32, _⟩ => ⟨S512x512x512, .f32⟩
  | .hbm, ⟨33, _⟩ => ⟨S512x512x512, .i1⟩
  | .hbm, ⟨34, _⟩ => ⟨S_, .f32⟩
  | .hbm, ⟨35, _⟩ => ⟨S512x512x512, .f32⟩
  | .hbm, ⟨36, _⟩ => ⟨S512x512x512, .f32⟩
  | _, _ => ⟨S1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v10 : Ref sig .tc := ⟨.hbm, 36, rfl⟩

abbrev nD : Nat := 1
abbrev τ : Topo := Topo.v7x

variable {F : FTy → Type} [FloatOps F]
-- ==== Proof.Copies.lean ====
/-
  The 512 transfers of the kernel, by NUMBER. Loop `r` of the kernel (`r = 0 … 7`) issues, at its trip `b`
  (`b = 0 … 63`), transfer `64 r + b`: it copies 512 rows of plane `7 - r` of the stacked source, from row `8 (63 - b)`
  on, into page `8 b + r` of the result. This module names the two ends of transfer `t`, what the transfer delivers, and
  proves ONE issue and ONE wait; every loop of the kernel is an instance.
-/
module

public import proofs.«01_k».proof.Proof.Gen.KernelIdeal
public import proofs.«01_k».proof.Proof.Gen.KernelIdeal.Skeleton
public import Idealize.ShloMosaic.Lib.Batch
public import Idealize.ShloMosaic.Lib.Ring
public import Idealize.ShloMosaic.Lib.Tactic
public import Idealize.ShloMosaic.Lib.Pipeline.Routed

@[expose] public section

noncomputable section

namespace Cert.Proof.Copies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## The two ends of transfer `t` -/

/-- The stacked source, staged on the core, and the result array. -/
abbrev stack : Memref sig .tc .vmem S8x1016x512 .f32 := Memref.whole cc0_stg0_0
abbrev result : Memref sig .tc .hbm S512x512x512 .f32 := Memref.whole main_v17

/-- Transfer `t` lands at page `8 (t mod 64) + t / 64`, -/
abbrev dstOff (t : ℕ) : Fin 3 → ℕ := ![8 * (t % 64) + t / 64, 0, 0]
/-- from plane `7 - t / 64`, row `8 (63 - t mod 64)` on. -/
abbrev srcOff (t : ℕ) : Fin 3 → ℕ := ![7 - t / 64, 8 * (63 - t % 64), 0]

theorem dst_inb (t : Fin 512) : ∀ a, dstOff t a + S1x512x512.size a ≤ S512x512x512.size a := by
  have ht := t.isLt; intro a; fin_cases a
  · show 8 * (t.val % 64) + t.val / 64 + 1 ≤ 512; omega
  · show 0 + 512 ≤ 512; omega
  · show 0 + 512 ≤ 512; omega
theorem src_inb (t : Fin 512) : ∀ a, srcOff t a + S1x512x512.size a ≤ S8x1016x512.size a := by
  have ht := t.isLt; intro a; fin_cases a
  · show 7 - t.val / 64 + 1 ≤ 8; omega
  · show 8 * (63 - t.val % 64) + 512 ≤ 1016; omega
  · show 0 + 512 ≤ 512; omega

/-- The page transfer `t` fills, and the rows it reads. -/
def dst (t : Fin 512) : Memref sig .tc .hbm S512x512 .f32 :=
  (result.slice (Rect.unit (s := S512x512x512) (dstOff t) S1x512x512.size (dst_inb t)) (fun _ => rfl)).squeeze S512x512
    squeezes_S1x512x512_S512x512
def src (t : Fin 512) : Memref sig .tc .vmem S512x512 .f32 :=
  (stack.slice (Rect.unit (s := S8x1016x512) (srcOff t) S1x512x512.size (src_inb t)) (fun _ => rfl)).squeeze S512x512
    squeezes_S1x512x512_S512x512

/-- One issue at any offsets: page `o` of the result from the rows at `p`. -/
def copyAt (o p : Fin 3 → ℕ) (ho : ∀ a, o a + S1x512x512.size a ≤ S512x512x512.size a)
    (hp : ∀ a, p a + S1x512x512.size a ≤ S8x1016x512.size a) : Prog (TpuEff nD τ sig (Elt F) Λ₀ .tc) Unit := do
  Prog.lift (.enqueueDma
    ((stack.slice (Rect.unit (s := S8x1016x512) p S1x512x512.size hp) (fun _ => rfl)).squeeze S512x512 squeezes_S1x512x512_S512x512)
    (.here ((result.slice (Rect.unit (s := S512x512x512) o S1x512x512.size ho) (fun _ => rfl)).squeeze S512x512 squeezes_S1x512x512_S512x512))
    (.dma cc0_scratch0.sem) ((View.wordExact_bits rfl).reshape _ _) ((View.wordExact_bits rfl).reshape _ _) ⟨Or.inl rfl, trivial⟩)
  pure ⟨⟩

theorem copyAt_congr {o o' p p' : Fin 3 → ℕ} (eo : o = o') (ep : p = p') (ho hp ho' hp') :
    copyAt (F := F) o p ho hp = copyAt o' p' ho' hp' := by subst eo ep; rfl

/-- The issue of transfer `t`. -/
abbrev copy (t : Fin 512) : Prog (TpuEff nD τ sig (Elt F) Λ₀ .tc) Unit := copyAt (dstOff t) (srcOff t) (dst_inb t) (src_inb t)

/-! ## What the transfers deliver -/

/-- One transfer's credit on the semaphore. -/
abbrev NN : ℕ := 32768

section Deliveries

variable (c : Dev nD) (f : S512x512x512.Idx → Elt F .f32) (g : S8x1016x512.Idx → Elt F .f32)

/-- The result's and the source's contents, at the type of transfer `t`'s ends. -/
abbrev dstBuf (t : Fin 512) : Buf (Elt F) ((dst t).view.loc (c : Thread nD τ)) := f
abbrev srcBuf (t : Fin 512) : Buf (Elt F) ((src t).view.loc (c : Thread nD τ)) := g

/-- Page `t` after the transfer: the rows read, written over it. -/
abbrev landed (t : Fin 512) : Buf (Elt F) ((dst t).view.loc (c : Thread nD τ)) :=
  (dst t).view.writes (Elt F) (dstBuf c f t) [⟨Rect.whole S512x512, ReadAs.same.apply ((src t).view.read (Elt F) (srcBuf c g t))⟩]

/-- Page `t` held at the entry contents and held filled; the rows transfer `t` reads, held under its read token. -/
abbrev pageIn (t : Fin 512) : sProp 𝕄 := (dst t).view.loc (c : Thread nD τ) ↦[(dst t).view.set]{fullShare} dstBuf c f t
abbrev pageOut (t : Fin 512) : sProp 𝕄 := (dst t).view.loc (c : Thread nD τ) ↦[(dst t).view.set]{fullShare} landed c f g t
abbrev rows (t : Fin 512) : sProp 𝕄 :=
  (src t).view.loc (c : Thread nD τ) ↦[(src t).view.set]{Transfers.shareTokN fullShare t.val} srcBuf c g t

/-- Transfer `t` delivers its page filled and gives its rows back. -/
abbrev D (t : Fin 512) : sProp 𝕄 := iprop(pageOut c f g t ∗ rows c g t)

instance D_storable (t : Fin 512) : BI.Storable (upEmb : UEmb _ 𝕄) (D c f g t) := by
  unfold D; infer_instance

/-- The 512 transfers on the kernel's one semaphore: `j` issued, `u` credits consumed. -/
abbrev batch (j u : ℕ) : sProp 𝕄 :=
  Transfers.Batch countersEmb (c : Thread nD τ) (.dma cc0_scratch0.sem) () NN (D c f g) j u

/-! ## One issue -/

/-- Before transfer `t`: the ones below it issued, the pages and rows of the others in hand. -/
def issued (t : ℕ) : sProp 𝕄 :=
  iprop(batch c f g t 0 ∗ bigSep (Ring.rangeSet 512 t 512) (pageIn c f) ∗ bigSep (Ring.rangeSet 512 t 512) (rows c g))

theorem issue_step [∀ e, Nonempty (Elt F e)] (t : Fin 512) :
    issued c f g t ⊢ wp frame (wpE (defs₀ (F := F)) Variants.none c none) Set.univ (copy t) (fun _ => issued c f g (t.val + 1)) := by
  have ht := t.isLt
  unfold issued
  rw [Ring.bigSep_rangeSet_head (Φ := pageIn c f) ht ht, Ring.bigSep_rangeSet_head (Φ := rows c g) ht ht]
  iintro ⟨HB, ⟨HP, HPs⟩, ⟨HS, HSs⟩⟩
  dsimp only [copy, copyAt]
  sl_exec
  sl_step
  isplitl [HB]; · iexact HB
  isplitl [HPs]; · iexact HPs
  iexact HSs

/-! ## One wait -/

/-- Before wait `k`: `k` transfers' credit consumed; after the last, the semaphore at zero and every delivery. -/
def drained (k : ℕ) (_ : Unit) : sProp 𝕄 :=
  iprop((∃ W, owes (c : Thread nD τ) 0 W)
    ∗ (if k < 512 then batch c f g 512 (k * NN)
       else iprop(semVal ((c : Thread nD τ), SemLoc.dma cc0_scratch0.sem) 0 ∗ bigSep Finset.univ (D c f g))))

theorem drain_step [∀ e, Nonempty (Elt F e)] (k : Fin k0_t9_loop.trips) (acc : Unit) :
    drained c f g k acc
      ⊢ wp frame (wpE (defs₀ (F := F)) Variants.none c none) Set.univ
          (k0_t9_body (F := F) stack (Memref.isWhole_whole _) result (Memref.isWhole_whole _) cc0_scratch0 k acc)
          (drained c f g (k.val + 1)) := by
  have hk : k.val < 512 := (show k0_t9_loop.trips = 512 by decide) ▸ k.isLt
  unfold drained
  simp only [if_pos hk]
  rcases Nat.lt_or_ge (k.val + 1) 512 with hk1 | hk1
  · simp only [if_pos hk1]
    iintro ⟨⟨%W, HO⟩, HB⟩
    dsimp only [k0_t9_body]
    sl_exec
    sl_step
    isplitl [HO]; · iexists _; iexact HO
    rw [show (k.val + 1) * NN = k.val * NN + NN from Nat.succ_mul _ _]
    iexact HB
  · simp only [if_neg (Nat.not_lt.mpr hk1)]
    iintro ⟨⟨%W, HO⟩, HB⟩
    dsimp only [k0_t9_body]
    sl_exec
    sl_step
    isplitl [HO]; · iexists _; iexact HO
    isplitl [HB]; · iexact HB
    iexact HB_all

end Deliveries

end Cert.Proof.Copies

end
-- ==== Proof.Body.lean ====
/-
  The kernel body's run: from the staged stack and the result array held whole and the semaphore at zero, the body ends
  with the stack as it was, the semaphore back at zero and the result at `filled`: page `i`, row `j` is row
  `8 (63 - i / 8) + j` of plane `7 - i mod 8` of the stack.
-/
module

public import proofs.«01_k».proof.Proof.Copies
public import Idealize.ShloMosaic.Lib.ValueLayout

@[expose] public section

noncomputable section

namespace Cert.Proof.Copies

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## What the transfers leave in the result -/

/-- The result after the body, from the stack's contents. -/
def filled (g : S8x1016x512.Idx → Elt F .f32) : S512x512x512.Idx → Elt F .f32 := fun i =>
  g (ix3 (⟨7 - (i 0).val % 8, by omega⟩ : Fin 8)
    (⟨8 * (63 - (i 0).val / 8) + (i 1).val, by have : (i 1).val < 512 := (i 1).isLt; omega⟩ : Fin 1016) (i 2))

section Values

variable (c : Dev nD) (f : S512x512x512.Idx → Elt F .f32) (g : S8x1016x512.Idx → Elt F .f32)

/-- Element `(j, d)` of page `t` is the result's element `(8 (t mod 64) + t / 64, j, d)`, -/
theorem dst_emb (t : Fin 512) (j : Fin 512) (d : Fin 512) :
    ((dst t).view.emb (ix2 j d) : S512x512x512.Idx) = ix3 (⟨8 * (t.val % 64) + t.val / 64, by omega⟩ : Fin 512) j d := by
  have e : ((dst t).view.emb (ix2 j d) : S512x512x512.Idx)
      = (Rect.unit (s := S512x512x512) (dstOff t) S1x512x512.size (dst_inb t)).emb (Shape.reshapeEquiv squeezes_S1x512x512_S512x512.numel_eq (ix2 j d)) := rfl
  rw [e, reshapeEquiv_ix2_1ab]
  funext a; apply Fin.ext; fin_cases a
  · show 8 * (t.val % 64) + t.val / 64 + 1 * 0 = 8 * (t.val % 64) + t.val / 64; omega
  · show 0 + 1 * j.val = j.val; omega
  · show 0 + 1 * d.val = d.val; omega
/-- and of the rows it reads the stack's element `(7 - t / 64, 8 (63 - t mod 64) + j, d)`. -/
theorem src_emb (t : Fin 512) (j : Fin 512) (d : Fin 512) :
    ((src t).view.emb (ix2 j d) : S8x1016x512.Idx)
      = ix3 (⟨7 - t.val / 64, by omega⟩ : Fin 8) (⟨8 * (63 - t.val % 64) + j.val, by omega⟩ : Fin 1016) d := by
  have e : ((src t).view.emb (ix2 j d) : S8x1016x512.Idx)
      = (Rect.unit (s := S8x1016x512) (srcOff t) S1x512x512.size (src_inb t)).emb (Shape.reshapeEquiv squeezes_S1x512x512_S512x512.numel_eq (ix2 j d)) := rfl
  rw [e, reshapeEquiv_ix2_1ab]
  funext a; apply Fin.ext; fin_cases a
  · show 7 - t.val / 64 + 1 * 0 = 7 - t.val / 64; omega
  · show 8 * (63 - t.val % 64) + 1 * j.val = 8 * (63 - t.val % 64) + j.val; omega
  · show 0 + 1 * d.val = d.val; omega

/-- A filled page's element read by its coordinates in the page. -/
theorem filled_dst (t : Fin 512) (j d : Fin 512) :
    filled g ((dst t).view.emb (ix2 j d) : S512x512x512.Idx) = g ((src t).view.emb (ix2 j d) : S8x1016x512.Idx) := by
  have ht := t.isLt
  rw [src_emb, dst_emb]
  unfold filled
  refine congrArg g ?_
  funext a; apply Fin.ext; fin_cases a
  · show 7 - (8 * (t.val % 64) + t.val / 64) % 8 = 7 - t.val / 64; omega
  · show 8 * (63 - (8 * (t.val % 64) + t.val / 64) / 8) + j.val = 8 * (63 - t.val % 64) + j.val; omega
  · rfl

omit [FloatOps F] in
/-- An element a transfer writes holds the element it reads; -/
theorem landed_emb (t : Fin 512) (y : S512x512.Idx) : landed c f g t ((dst t).view.emb y) = srcBuf c g t ((src t).view.emb y) := by
  unfold landed
  rw [← View.write_univ_eq_writes_whole, View.writes_nil, View.write_emb_of_mem _ _ (Finset.mem_univ _)]
  rfl
/-- on its page, a transfer leaves the filled result. -/
theorem landed_eq (t : Fin 512) (i : S512x512x512.Idx) (hi : i ∈ (dst t).view.set) : landed c f g t i = filled g i := by
  obtain ⟨y, -, rfl⟩ := Finset.mem_map.mp hi
  refine (landed_emb c f g t y).trans ?_
  rw [eq_ix2 y]
  exact (filled_dst g t (y 0) (y 1)).symm

/-! ## The result by pages, the stack by read tokens -/

/-- Page `t`'s elements: the result's at that first index. -/
abbrev page (t : Fin 512) : Finset S512x512x512.Idx := (Rect.unit (s := S512x512x512) (dstOff t) S1x512x512.size (dst_inb t)).set
omit [FloatOps F] in
theorem dst_set (t : Fin 512) : (dst t).view.set = page t := by
  unfold dst; exact (View.set_reshape _ _).trans (View.set_slice_whole _ _)
omit [FloatOps F] in
theorem mem_page (t : Fin 512) (y : S512x512x512.Idx) : y ∈ page t ↔ (y 0).val = 8 * (t.val % 64) + t.val / 64 := by
  rw [Rect.mem_set_unit]
  have h1 : (y 1).val < 512 := (y 1).isLt
  have h2 : (y 2).val < 512 := (y 2).isLt
  constructor
  · intro H
    have a0 : 8 * (t.val % 64) + t.val / 64 ≤ (y 0).val ∧ (y 0).val < 8 * (t.val % 64) + t.val / 64 + 1 := H 0
    omega
  · intro H a; fin_cases a
    · show 8 * (t.val % 64) + t.val / 64 ≤ (y 0).val ∧ (y 0).val < 8 * (t.val % 64) + t.val / 64 + 1; omega
    · show 0 ≤ (y 1).val ∧ (y 1).val < 0 + 512; omega
    · show 0 ≤ (y 2).val ∧ (y 2).val < 0 + 512; omega
omit [FloatOps F] in
theorem page_disjoint : ∀ t t' : Fin 512, t ≠ t' → Disjoint (page t) (page t') := fun t t' hne => by
  have ht := t.isLt; have ht' := t'.isLt
  rw [Finset.disjoint_left]; intro y hy hy'; rw [mem_page] at hy hy'; exact hne (Fin.ext (by omega))
omit [FloatOps F] in
theorem page_cover : Finset.univ.biUnion page = Finset.univ := by
  ext y
  have h0 : (y 0).val < 512 := (y 0).isLt
  simp only [Finset.mem_biUnion, Finset.mem_univ, true_and, iff_true]
  refine ⟨⟨64 * ((y 0).val % 8) + (y 0).val / 8, by omega⟩, (mem_page _ _).mpr ?_⟩
  show (y 0).val = 8 * ((64 * ((y 0).val % 8) + (y 0).val / 8) % 64) + (64 * ((y 0).val % 8) + (y 0).val / 8) / 64
  omega

/-- The first two of three resources change places. -/
theorem sep_swap (P Q R : sProp 𝕄) : iprop(P ∗ Q ∗ R) = iprop(Q ∗ P ∗ R) := by
  have h : ∀ P Q R : sProp 𝕄, iprop(P ∗ Q ∗ R) ⊢ iprop(Q ∗ P ∗ R) := fun P Q R => by
    iintro ⟨A, B, C⟩
    isplitl [B]; · iexact B
    isplitl [A] <;> iassumption
  exact BI.equiv_iff.mp ⟨h P Q R, h Q P R⟩

/-- The result array held whole, and the stack. -/
abbrev resultAt (f : S512x512x512.Idx → Elt F .f32) : sProp 𝕄 := result.view.loc (c : Thread nD τ) ↦{fullShare} f
abbrev stackAt (q : PosShare TreeShare) (g : S8x1016x512.Idx → Elt F .f32) : sProp 𝕄 := stack.view.loc (c : Thread nD τ) ↦{q} g

/-- The result held whole is its pages held; -/
theorem result_pages : resultAt c f = (bigSep Finset.univ (pageIn c f) : sProp 𝕄) := by
  refine (Ring.pointsTo_blocks (ℓ := result.view.loc (c : Thread nD τ)) (q := fullShare) page page_disjoint page_cover f).trans ?_
  refine BI.bigSep_congr fun t _ => ?_
  unfold pageIn; rw [dst_set]; rfl
/-- the pages filled are the result held whole, filled. -/
theorem pages_filled : (bigSep Finset.univ (pageOut c f g) : sProp 𝕄) = resultAt c (filled g) := by
  rw [result_pages]
  exact BI.bigSep_congr fun t _ => pointsTo_congr fun i hi => landed_eq c f g t i hi

/-- What is left of the stack beside the rows the transfers read: under each read token the elements its transfer does
    not read, and the share no token takes. -/
def stackRest : sProp 𝕄 :=
  iprop(stackAt c (Transfers.shareDrop fullShare 512) g
    ∗ bigSep Finset.univ fun t : Fin 512 => (src t).view.loc (c : Thread nD τ) ↦[Finset.univ \ (src t).view.set]{Transfers.shareTokN fullShare t.val} srcBuf c g t)
theorem stack_rows : stackAt c fullShare g = iprop(bigSep Finset.univ (rows c g) ∗ stackRest c g) := by
  have h1 := Transfers.pointsTo_toks_range (Ix := Unit) (Name := ℕ) (U := UC sig nD τ) (Lvl := ℕ) (ℓ := stack.view.loc (c : Thread nD τ)) (S := Finset.univ) (f := g) fullShare 512
  have h2 : ∀ t : Fin 512, (stackAt c (Transfers.shareTokN fullShare t.val) g : sProp 𝕄)
      = iprop(rows c g t ∗ (src t).view.loc (c : Thread nD τ) ↦[Finset.univ \ (src t).view.set]{Transfers.shareTokN fullShare t.val} srcBuf c g t) := fun t =>
    let h := pointsTo_split_subset (Ix := Unit) (Name := ℕ) (U := UC sig nD τ) (Lvl := ℕ) (ℓ := stack.view.loc (c : Thread nD τ))
      (q := Transfers.shareTokN fullShare t.val) (f := g) (Finset.subset_univ (src t).view.set)
    BI.equiv_iff.mp ⟨h.1, h.2⟩
  have h3 := Ring.bigSep_fin_eq_range 512 (fun t : Fin 512 => (stackAt c (Transfers.shareTokN fullShare t.val) g : sProp 𝕄))
    (fun t => stackAt c (Transfers.shareTokN fullShare t) g) (fun _ _ => rfl)
  have h4 := (BI.bigSep_congr fun t (_ : t ∈ Finset.univ) => h2 t).symm.trans h3
  refine (BI.equiv_iff.mp ⟨h1.1, h1.2⟩).trans ?_
  rw [← h4, show bigSep Finset.univ (fun t : Fin 512 => iprop(rows c g t
      ∗ (src t).view.loc (c : Thread nD τ) ↦[Finset.univ \ (src t).view.set]{Transfers.shareTokN fullShare t.val} srcBuf c g t)) = _ from BI.bigSep_sep _ _ _]
  unfold stackRest
  exact sep_swap _ _ _

end Values

/-! ## The issue loops -/

theorem hstack : stack.IsWhole := Memref.isWhole_whole _
theorem hresult : result.IsWhole := Memref.isWhole_whole _

/-- What trip `b` of loop `r` names: the offsets of transfer `64 r + b`. -/
abbrev Trip (r b : ℕ) (o p : Fin 3 → ℕ) : Prop := (o = dstOff (64 * r + b) ∧ p = srcOff (64 * r + b)) ∧ 64 * r + b < 512

/-- Transfer `64 r + b`'s issue (nothing, past the last). -/
def copyOf (r b : ℕ) : Prog (TpuEff nD τ sig (Elt F) Λ₀ .tc) Unit := if h : 64 * r + b < 512 then copy ⟨64 * r + b, h⟩ else pure ⟨⟩

theorem trip_eq {r b : ℕ} {o p : Fin 3 → ℕ} (h : Trip r b o p) (ho hp) : copyAt (F := F) o p ho hp = copyOf r b := by
  unfold copyOf; rw [dif_pos h.2]; exact copyAt_congr h.1.1 h.1.2 ..

theorem trips_1 (k : Fin k0_t1_loop.trips) (acc : Unit) : k0_t1_body (F := F) stack hstack result hresult cc0_scratch0 k acc = copyOf 0 k.val :=
  trip_eq ((by decide +kernel : ∀ k : Fin k0_t1_loop.trips, Trip 0 k.val (k0_off1 k) (k0_off2 k)) k) (k0_off1_inb k) (k0_off2_inb k)

theorem trips_2 (k : Fin k0_t2_loop.trips) (acc : Unit) : k0_t2_body (F := F) stack hstack result hresult cc0_scratch0 k acc = copyOf 1 k.val :=
  trip_eq ((by decide +kernel : ∀ k : Fin k0_t2_loop.trips, Trip 1 k.val (k0_off3 k) (k0_off4 k)) k) (k0_off3_inb k) (k0_off4_inb k)

theorem trips_3 (k : Fin k0_t3_loop.trips) (acc : Unit) : k0_t3_body (F := F) stack hstack result hresult cc0_scratch0 k acc = copyOf 2 k.val :=
  trip_eq ((by decide +kernel : ∀ k : Fin k0_t3_loop.trips, Trip 2 k.val (k0_off5 k) (k0_off6 k)) k) (k0_off5_inb k) (k0_off6_inb k)

theorem trips_4 (k : Fin k0_t4_loop.trips) (acc : Unit) : k0_t4_body (F := F) stack hstack result hresult cc0_scratch0 k acc = copyOf 3 k.val :=
  trip_eq ((by decide +kernel : ∀ k : Fin k0_t4_loop.trips, Trip 3 k.val (k0_off7 k) (k0_off8 k)) k) (k0_off7_inb k) (k0_off8_inb k)

theorem trips_5 (k : Fin k0_t5_loop.trips) (acc : Unit) : k0_t5_body (F := F) stack hstack result hresult cc0_scratch0 k acc = copyOf 4 k.val :=
  trip_eq ((by decide +kernel : ∀ k : Fin k0_t5_loop.trips, Trip 4 k.val (k0_off9 k) (k0_off10 k)) k) (k0_off9_inb k) (k0_off10_inb k)

theorem trips_6 (k : Fin k0_t6_loop.trips) (acc : Unit) : k0_t6_body (F := F) stack hstack result hresult cc0_scratch0 k acc = copyOf 5 k.val :=
  trip_eq ((by decide +kernel : ∀ k : Fin k0_t6_loop.trips, Trip 5 k.val (k0_off11 k) (k0_off12 k)) k) (k0_off11_inb k) (k0_off12_inb k)

theorem trips_7 (k : Fin k0_t7_loop.trips) (acc : Unit) : k0_t7_body (F := F) stack hstack result hresult cc0_scratch0 k acc = copyOf 6 k.val :=
  trip_eq ((by decide +kernel : ∀ k : Fin k0_t7_loop.trips, Trip 6 k.val (k0_off13 k) (k0_off14 k)) k) (k0_off13_inb k) (k0_off14_inb k)

theorem trips_8 (k : Fin k0_t8_loop.trips) (acc : Unit) : k0_t8_body (F := F) stack hstack result hresult cc0_scratch0 k acc = copyOf 7 k.val :=
  trip_eq ((by decide +kernel : ∀ k : Fin k0_t8_loop.trips, Trip 7 k.val (k0_off15 k) (k0_off16 k)) k) (k0_off15_inb k) (k0_off16_inb k)

section Run

variable (c : Dev nD) (f : S512x512x512.Idx → Elt F .f32) (g : S8x1016x512.Idx → Elt F .f32)

/-- Loop `r`, whichever of the eight, issues the 64 transfers from `64 r` on. -/
theorem issue_loop [∀ e, Nonempty (Elt F e)] (r : ℕ) (hr : r < 8) (L : Scf.Loop 32) (hL : L.OK) (hT : L.trips = 64)
    (body : Fin L.trips → Unit → Prog (TpuEff nD τ sig (Elt F) Λ₀ .tc) Unit) (hb : ∀ k acc, body k acc = copyOf r k.val) :
    issued c f g (64 * r)
      ⊢ wp frame (wpE (defs₀ (F := F)) Variants.none c none) Set.univ (Scf.Loop.for L hL () body) (fun _ => issued c f g (64 * (r + 1))) := by
  refine BIBase.Entails.trans ?_ (Scf.wp_for (M := 𝕄) frame (wpE (defs₀ (F := F)) Variants.none c none) Set.univ L.lb L.ub L.st hL () body
    (fun k _ => issued c f g (64 * r + k)) (fun k acc => ?_))
  · iintro H
    isplitl [H]; · iexact H
    iintro %acc H
    have e : 64 * r + Scf.trips L.lb L.ub L.st = 64 * (r + 1) := by have : Scf.trips L.lb L.ub L.st = 64 := hT; omega
    rw [e]; iexact H
  · have hk : k.val < 64 := lt_of_lt_of_eq k.isLt hT
    have ht : 64 * r + k.val < 512 := by omega
    rw [hb]; unfold copyOf; rw [dif_pos ht]
    exact issue_step c f g ⟨_, ht⟩

/-- The drain loop takes all 512 deliveries. -/
theorem drain_loop [∀ e, Nonempty (Elt F e)] :
    iprop((∃ W, owes (c : Thread nD τ) 0 W) ∗ batch c f g 512 0)
      ⊢ wp frame (wpE (defs₀ (F := F)) Variants.none c none) Set.univ
          (Scf.Loop.for k0_t9_loop k0_t9_ok () (k0_t9_body (F := F) stack hstack result hresult cc0_scratch0))
          (fun _ => iprop((∃ W, owes (c : Thread nD τ) 0 W) ∗ semVal ((c : Thread nD τ), SemLoc.dma cc0_scratch0.sem) 0
            ∗ bigSep Finset.univ (D c f g))) := by
  refine BIBase.Entails.trans ?_ (Scf.wp_for (M := 𝕄) frame (wpE (defs₀ (F := F)) Variants.none c none) Set.univ _ _ _ k0_t9_ok () _
    (drained c f g) (drain_step c f g))
  iintro H
  isplitl [H]
  · unfold drained; rw [if_pos (by decide), Nat.zero_mul]; iexact H
  iintro %acc H
  ihave H' := (show drained c f g (Scf.trips k0_t9_loop.lb k0_t9_loop.ub k0_t9_loop.st) acc ⊢ iprop((∃ W, owes (c : Thread nD τ) 0 W)
      ∗ semVal ((c : Thread nD τ), SemLoc.dma cc0_scratch0.sem) 0 ∗ bigSep Finset.univ (D c f g)) from by
    unfold drained; rw [if_neg (by decide)]) $$ H
  iexact H'

/-- One program after another. -/
theorem wp_then {P R : sProp 𝕄} {α : Type} {p : Prog (TpuEff nD τ sig (Elt F) Λ₀ .tc) Unit} {q : Unit → Prog (TpuEff nD τ sig (Elt F) Λ₀ .tc) α}
    {Q : α → sProp 𝕄} (hp : P ⊢ wp frame (wpE (defs₀ (F := F)) Variants.none c none) Set.univ p (fun _ => R))
    (hq : ∀ u, R ⊢ wp frame (wpE (defs₀ (F := F)) Variants.none c none) Set.univ (q u) Q) :
    P ⊢ wp frame (wpE (defs₀ (F := F)) Variants.none c none) Set.univ (p >>= q) Q := by
  rw [wp_bind]; exact hp.trans (wp_mono _ _ _ hq)

/-- `issue_loop` with something kept aside. -/
theorem issue_loop_frame [∀ e, Nonempty (Elt F e)] (R : sProp 𝕄) (r : ℕ) (hr : r < 8) (L : Scf.Loop 32) (hL : L.OK) (hT : L.trips = 64)
    (body : Fin L.trips → Unit → Prog (TpuEff nD τ sig (Elt F) Λ₀ .tc) Unit) (hb : ∀ k acc, body k acc = copyOf r k.val) :
    iprop(issued c f g (64 * r) ∗ R)
      ⊢ wp frame (wpE (defs₀ (F := F)) Variants.none c none) Set.univ (Scf.Loop.for L hL () body) (fun _ => iprop(issued c f g (64 * (r + 1)) ∗ R)) := by
  refine BIBase.Entails.trans ?_ (wp_frame_r _ _ _)
  iintro ⟨H, HR⟩
  isplitl [H]
  · iapply (issue_loop c f g r hr L hL hT body hb); iexact H
  iexact HR

/-- The body with the result and the stack taken apart: every transfer issued, every delivery taken. -/
theorem core_run [∀ e, Nonempty (Elt F e)] :
    iprop(issued c f g (64 * 0) ∗ ∃ W, owes (c : Thread nD τ) 0 W)
      ⊢ wp frame (wpE (defs₀ (F := F)) Variants.none c none) Set.univ (cc0__dma_kernel stack hstack result hresult cc0_scratch0)
          (fun _ => iprop((∃ W, owes (c : Thread nD τ) 0 W) ∗ semVal ((c : Thread nD τ), SemLoc.dma cc0_scratch0.sem) 0
            ∗ bigSep Finset.univ (D c f g))) := by
  rw [cc0__dma_kernel_eq_skeleton]; unfold cc0__dma_kernel_skel
  refine wp_then c (issue_loop_frame c f g _ 0 (by decide) k0_t1_loop k0_t1_ok (by decide) _ trips_1) fun _ => ?_
  refine wp_then c (issue_loop_frame c f g _ 1 (by decide) k0_t2_loop k0_t2_ok (by decide) _ trips_2) fun _ => ?_
  refine wp_then c (issue_loop_frame c f g _ 2 (by decide) k0_t3_loop k0_t3_ok (by decide) _ trips_3) fun _ => ?_
  refine wp_then c (issue_loop_frame c f g _ 3 (by decide) k0_t4_loop k0_t4_ok (by decide) _ trips_4) fun _ => ?_
  refine wp_then c (issue_loop_frame c f g _ 4 (by decide) k0_t5_loop k0_t5_ok (by decide) _ trips_5) fun _ => ?_
  refine wp_then c (issue_loop_frame c f g _ 5 (by decide) k0_t6_loop k0_t6_ok (by decide) _ trips_6) fun _ => ?_
  refine wp_then c (issue_loop_frame c f g _ 6 (by decide) k0_t7_loop k0_t7_ok (by decide) _ trips_7) fun _ => ?_
  refine wp_then c (issue_loop_frame c f g _ 7 (by decide) k0_t8_loop k0_t8_ok (by decide) _ trips_8) fun _ => ?_
  refine wp_then c (R := iprop((∃ W, owes (c : Thread nD τ) 0 W) ∗ semVal ((c : Thread nD τ), SemLoc.dma cc0_scratch0.sem) 0
    ∗ bigSep Finset.univ (D c f g))) (BIBase.Entails.trans ?_ (drain_loop c f g)) fun _ => ?_
  · unfold issued
    iintro ⟨⟨HB, -, -⟩, HO⟩
    isplitl [HO]; · iexact HO
    iexact HB
  · iintro H
    sl_step
    iexact H

/-- THE BODY'S RUN. -/
theorem kernel_run [∀ e, Nonempty (Elt F e)] (W : Waits sig Unit) :
    iprop(stackAt c fullShare g ∗ resultAt c f ∗ semVal ((c : Thread nD τ), SemLoc.dma cc0_scratch0.sem) 0 ∗ owes (c : Thread nD τ) 0 W)
      ⊢ wp frame (wpE (defs₀ (F := F)) Variants.none c none) Set.univ (cc0__dma_kernel stack hstack result hresult cc0_scratch0)
          (fun _ => iprop(stackAt c fullShare g ∗ resultAt c (filled g) ∗ semVal ((c : Thread nD τ), SemLoc.dma cc0_scratch0.sem) 0
            ∗ ∃ W, owes (c : Thread nD τ) 0 W)) := by
  rw [stack_rows, result_pages c f, ← pages_filled c f g]
  iintro ⟨⟨Hr, Hrest⟩, Hp, Hc, HO⟩
  imod (Transfers.batch_alloc' (Lvl := ℕ) countersEmb (c : Thread nD τ) () NN (D c f g) (sm := .dma cc0_scratch0.sem) (E := Set.univ)) $$ Hc with HB
  iapply (wp_mono _ _ _ (fun _ => show iprop(((∃ W, owes (c : Thread nD τ) 0 W) ∗ semVal ((c : Thread nD τ), SemLoc.dma cc0_scratch0.sem) 0
        ∗ bigSep Finset.univ (D c f g)) ∗ stackRest c g) ⊢ iprop((bigSep Finset.univ (rows c g) ∗ stackRest c g) ∗ bigSep Finset.univ (pageOut c f g)
          ∗ semVal ((c : Thread nD τ), SemLoc.dma cc0_scratch0.sem) 0 ∗ ∃ W, owes (c : Thread nD τ) 0 W) from by
    rw [show bigSep Finset.univ (D c f g) = iprop(bigSep Finset.univ (pageOut c f g) ∗ bigSep Finset.univ (rows c g)) from BI.bigSep_sep _ _ _]
    iintro ⟨⟨HO, Hc, Hp, Hr⟩, Hrest⟩
    isplitl [Hr Hrest]; · isplitl [Hr] <;> iassumption
    isplitl [Hp]; · iexact Hp
    isplitl [Hc] <;> iassumption))
  iapply (wp_frame_r frame (wpE (defs₀ (F := F)) Variants.none c none) Set.univ)
  isplitr [Hrest]; swap; · iexact Hrest
  iapply (core_run c f g)
  isplitr [HO]; swap; · iexists W; iexact HO
  unfold issued
  rw [Nat.mul_zero, Ring.rangeSet_univ]
  isplitl [HB]; · iexact HB
  isplitl [Hp] <;> iassumption

end Run

end Cert.Proof.Copies

end
-- ==== Proof.Run.lean ====
/-
  The launch: the region around the body, with the result array carried through the body's invariant, and the whole
  program's run: the result ends at `filled` of the stack the host built, the arguments as launched, every semaphore at zero.
-/
module

public import proofs.«01_k».proof.Proof.Body
public import proofs.«01_k».proof.Proof.Gen.KernelIdeal.Frame
public import Idealize.ShloMosaic.Lib.Pipeline.Routed
public import Idealize.ShloMosaic.Lib.Pipeline.ValueKit.Point

@[expose] public section

noncomputable section

namespace Cert.Proof.Run

open Cert.KernelIdeal Cert.KernelIdeal.Gen Cert.Proof.Copies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost routed_singleton)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-- The stack as the body finds it staged. -/
abbrev staged (c : Dev nD) : S8x1016x512.Idx → Elt F .f32 := iblk m c 0 t0_0

/-- It is the stack the host built: the block is the whole array. -/
theorem staged_eq (c : Dev nD) : staged m c = V m c main_v16 := by
  funext i
  have h : ∀ a, win0_0.index t0_0 a = 0 := fun _ => rfl
  show V m c main_v16 _ = _
  blk_ext! [h]

/-- The unscoped buffers after the region: the result at its final contents, the rest as found. -/
def after (c : Dev nD) : (b : Ref sig .tc) → Buf (Elt F) ((c : Thread nD τ).loc b) :=
  Function.update (V m c) main_v17 (filled (staged m c))

theorem after_result (c : Dev nD) : after m c main_v17 = filled (staged m c) := Function.update_self ..

/-- The body's own semaphore. -/
abbrev osem : Unit → SemLoc sig := fun _ => .dma cc0_scratch0.sem

theorem ownSemFacts : Pipeline.OwnSemFacts spec0 osem := by decide

/-- The proof data: the stack stays as fetched; the result goes from what it was to what the body leaves. -/
def dats (_ : Fin 1) (c : Dev nD) : Dat τ (Elt F) Unit ℕ (UC sig nD τ) ℕ cfg0 c where
  A w := V m c (Pipeline.arrRef spec0 w)
  after w t := match w with
    | ⟨0, _⟩ => iblk m c 0 t
  Φ t := match t with
    | ⟨0, _⟩ => Ends spec0 osem {main_v17} c (V m c)
    | ⟨_ + 1, _⟩ => Ends spec0 osem {main_v17} c (after m c)
  q _ := fullShare
  owed _ := 0

/-- What the invariant holds at either end: the result, the semaphore at zero and the generator register. -/
theorem ends_eq (c : Dev nD) (W : (b : Ref sig .tc) → Buf (Elt F) ((c : Thread nD τ).loc b)) :
    (Ends spec0 osem {main_v17} c W : sProp 𝕄)
      = iprop(resultAt c (W main_v17) ∗ semVal ((c : Thread nD τ), SemLoc.dma cc0_scratch0.sem) 0 ∗ emp ∗ ∃ r, prngReg c r) := by
  have hs : (Pipeline.ownSems0 (Ix := Unit) (Name := ℕ) (U := UC sig nD τ) (Lvl := ℕ) (Val := Elt F) (τ := τ) osem c : sProp 𝕄)
      = semVal ((c : Thread nD τ), osem ()) 0 := Pipeline.ownSems0_eq_of_list c osem [()] (by decide) (by decide)
  unfold Ends; rw [routed_singleton, hs, scopedRest0_eq]; rfl

theorem before_0 (c : Dev nD) (d) : (dats m 0 c).before 0 t0_0 d = iblk m c 0 t0_0 := by
  rw [(dats m 0 c).before_fetched 0 t0_0 (fetch0_0 t0_0)]; unfold Dat.fetched Dat.blockOf; dsimp only [dats]; rfl

/-- The body at its one point keeps the region's contract. -/
theorem body_obligation [∀ e, Nonempty (Elt F e)] (c : Dev nD) :
    BodyObligation (dats m 0 c) (defs₀ (F := F)) Variants.none () Set.univ := fun t => by
  obtain rfl := fin_N0 t
  rw [bigSep_W0, bigSep_W0]
  simp only [owns_whole_eq]
  rw [show (dats m 0 c).Φ t0_0.castSucc = Ends spec0 osem {main_v17} c (V m c) from rfl,
    show (dats m 0 c).Φ t0_0.succ = Ends spec0 osem {main_v17} c (after m c) from rfl, ends_eq, ends_eq, after_result]
  unfold Dat.owesAt Pipeline.owesWithin
  rw [show (dats m 0 c).owed t0_0.castSucc = 0 from rfl, show (dats m 0 c).owed t0_0.succ = 0 from rfl]
  iintro ⟨⟨Hr, Hs, -, Hp⟩, ⟨%W, %hW, HO⟩, ⟨%d0, %f0, %hf0, H0⟩⟩
  rw [before_0] at hf0
  subst hf0
  iapply (wp_mono _ _ _ (fun _ => show iprop((stackAt c fullShare (staged m c) ∗ resultAt c (filled (staged m c))
        ∗ semVal ((c : Thread nD τ), SemLoc.dma cc0_scratch0.sem) 0 ∗ ∃ W, owes (c : Thread nD τ) 0 W) ∗ ∃ r, prngReg c r) ⊢ _ from by
    iintro ⟨⟨H0, Hr, Hs, ⟨%W', HO⟩⟩, Hp⟩
    isplitl [Hr Hs Hp]
    · isplitl [Hr]; · iexact Hr
      isplitl [Hs]; · iexact Hs
      isplitr; · iempintro
      iexact Hp
    isplitl [HO]
    · iexists W'; isplitr; · ipureintro; exact fun _ _ => Or.inl trivial
      iexact HO
    iexists _; isplitr; swap; (· iexact H0); ipureintro; dsimp only [dats]))
  iapply (wp_frame_r frame (wpE (defs₀ (F := F)) Variants.none c none) Set.univ)
  isplitr [Hp]; swap; · iexact Hp
  iapply (kernel_run c (V m c main_v17) (staged m c) W)
  isplitl [H0]; · iexact H0
  isplitl [Hr]; · iexact Hr
  isplitl [Hs] <;> iassumption

/-- THE RUN. -/
theorem run_main [∀ e, Nonempty (Elt F e)] :
    θ_run defs (onTc (τ := τ) (main (F := F))) ⟨m, fun _ => 0, ρ⟩ (fun r => (∀ c : Dev nD,
      r.2.mem ((c.tc : Thread nD τ).loc main_v17) = filled (V m c main_v16)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2.1 main_v17 (by decide)).trans ((after_result m c).trans (congrArg filled (staged_eq m c))),
        ((h.1 c).2.2 main_arg0 (by decide)).trans (V_main_arg0 m c), ((h.1 c).2.2 main_arg1 (by decide)).trans (V_main_arg1 m c)⟩, h.2⟩)
    (Pipeline.θ_run_frame_routed cfgs (dats m) 0 launch0 ownSemFacts defs₀ Variants.none m ρ main
      (hbody := fun c => (body_obligation m c).loose) (hshare := fun c => (dats m 0 c).share_full fun _ => rfl)
      (howed := fun _ _ => rfl) (V := V m)
      (hmain := Pipeline.hmain_prefix cfgs 0 defs₀ Variants.none m main hostOps0 hostOps0_sub hostOps0_fresh main_chain)
      (hA := fun _ _ => rfl) (R := {main_v17}) (hR := by decide) (Y := after m) (hin := fun _ => .rfl) (hout := fun _ => .rfl)
      (Q' := fun r => RoutedPost cfgs (dats m) 0 {main_v17} (V m) (after m) r ∧ r.2.sem = fun _ => 0))

end Cert.Proof.Run
-- ==== Proof.Same.lean ====
/-
  The kernel as printed and the idealized kernel are one program: the same body, the same table of bodies, the same
  `@main`. So the run proved of the second is a run of the first, at any floats.
-/
module

public import proofs.«01_k».proof.Proof.Gen.Kernel
public import proofs.«01_k».proof.Proof.Run

@[expose] public section

noncomputable section

namespace Cert.Proof.Same

open Idealize.ShloMosaic Idealize.SL.Sem

variable {F : FTy → Type} [FloatOps F]

theorem bodies_eq : Cert.Kernel.defs₀ (F := F) = Cert.KernelIdeal.defs₀ (F := F) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs Cert.KernelIdeal.pcfgs) bodies_eq

theorem main_eq : Cert.Kernel.main (F := F) = Cert.KernelIdeal.main (F := F) := rfl

/-- The printed kernel runs, its arguments end as launched, every semaphore at zero. -/
theorem run_kernel [∀ e, Nonempty (Elt F e)] (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, main_eq]
  have h := (θ_run (Cert.KernelIdeal.defs (F := F)) _ _).mono
    (fun (r : PUnit × MemSt Cert.KernelIdeal.nD Cert.KernelIdeal.τ Cert.KernelIdeal.sig (Elt F)) h => And.intro (fun c => (h.1 c).2) h.2)
    (Run.run_main (F := F) m g)
  exact h

end Cert.Proof.Same
-- ==== Proof.Stack.lean ====
/-
  The stack the host builds: plane `k` is the table from row `k` on, so what the body leaves at `(i, j, d)` is the
  table's element `(511 - i + j, d)`.
-/
module

public import proofs.«01_k».proof.Proof.Run
public import Idealize.ShloMosaic.Lib.Pointwise

@[expose] public section

noncomputable section

namespace Cert.Proof.Stack

open Cert.KernelIdeal Cert.KernelIdeal.Gen Cert.Proof.Copies
open Idealize.ShloMosaic Idealize.ShloMosaic.TcCoe Idealize.ShloMosaic.Tactic

/-- The table from row `k` on, as one plane. -/
def plane {α : Type} (x : S1023x512.Idx → α) (k : Fin 8) : S1x1016x512.Idx → α := fun i =>
  x (ix2 (⟨k.val + (i 1).val, by have := k.isLt; have : (i 1).val < 1016 := (i 1).isLt; omega⟩ : Fin 1023) (i 2))

/-- The slice of 1016 rows from row `k` on, given a leading axis, is that plane. -/
theorem slice_plane {α : Type} (x : S1023x512.Idx → α) (k : Fin 8) (st : Fin 2 → Int) (h0 : st 0 = (k.val : Int)) (h1 : st 1 = 0) :
    broadcastInDim S1x1016x512 ![1, 2] bcast_S1016x512_S1x1016x512_1_2 (Host.dynamicSlice S1016x512 x st sliceFits_S1023x512_S1016x512) = plane x k := by
  have hk : Shape.Slices S1023x512 ![k.val, 0] S1016x512 := ⟨rfl, fun a => by
    have := k.isLt
    match a with
    | 0 => show k.val + 1016 ≤ 1023; omega
    | 1 => show 0 + 512 ≤ 512; omega⟩
  rw [WordCmp.dynamicSlice_eq_extract S1016x512 x st _ ![k.val, 0] hk (fun a => match a with | 0 => h0 | 1 => h1)]
  funext i
  refine congrArg x (funext fun a => Fin.ext ?_)
  match a with
  | 0 => show k.val + (i 1).val = k.val + (i 1).val; rfl
  | 1 => show 0 + (i 2).val = (i 2).val; omega

variable {F : FTy → Type} [FloatOps F] (m : (ℓ : Loc nD τ sig) → Buf (Elt F) ℓ)

/-- The stack is the eight planes the host built, one after another. -/
theorem stack_pieces (c : Dev nD) : V m c main_v16
    = concatenate S8x1016x512 0 [⟨S1x1016x512, V m c main_v8⟩, ⟨S1x1016x512, V m c main_v9⟩, ⟨S1x1016x512, V m c main_v10⟩, ⟨S1x1016x512, V m c main_v11⟩, ⟨S1x1016x512, V m c main_v12⟩, ⟨S1x1016x512, V m c main_v13⟩, ⟨S1x1016x512, V m c main_v14⟩, ⟨S1x1016x512, V m c main_v15⟩] concatenates_S1x1016x512_S1x1016x512_S1x1016x512_S1x1016x512_S1x1016x512_S1x1016x512_S1x1016x512_S1x1016x512_S8x1016x512_d0 := by
  unfold V
  simp only [StableHlo.after_cons, StableHlo.after_nil]
  generalize (StableHlo.unary main_v7 main_v15 _ _ _).result _ = G
  rw [StableHlo.nary_result]
  repeat rw [StableHlo.nary_result_ne _ _ _ _ _ _ (by decide)]
  rfl

/-- Each of the eight is its plane of the table. -/
theorem pieces_eq (c : Dev nD) (x : S1023x512.Idx → Elt F .f32) (hx : m ((c : Thread nD τ).loc main_arg1) = x) :
    V m c main_v8 = plane x 0 ∧ V m c main_v9 = plane x 1 ∧ V m c main_v10 = plane x 2 ∧ V m c main_v11 = plane x 3
      ∧ V m c main_v12 = plane x 4 ∧ V m c main_v13 = plane x 5 ∧ V m c main_v14 = plane x 6 ∧ V m c main_v15 = plane x 7 := by
  subst hx
  unfold V
  refine ⟨?_, ?_, ?_, ?_, ?_, ?_, ?_, ?_⟩ <;> (after_results_simp; exact slice_plane _ _ _ rfl rfl)

/-- Element `(k, p, d)` of the stack is the table's `(k + p, d)`. -/
theorem stack_at (c : Dev nD) (x : S1023x512.Idx → Elt F .f32) (hx : m ((c : Thread nD τ).loc main_arg1) = x) (i : S8x1016x512.Idx) :
    V m c main_v16 i = plane x (i 0) (ix3 (0 : Fin 1) (i 1) (i 2)) := by
  obtain ⟨h0, h1, h2, h3, h4, h5, h6, h7⟩ := pieces_eq m c x hx
  rw [stack_pieces, h0, h1, h2, h3, h4, h5, h6, h7]
  refine concatenate_ofFn_unit_eq (t := S8x1016x512) (s₁ := S1x1016x512) 0 (plane x) _ i _ rfl rfl fun n j h0 h1 h2 => ?_
  have e : i 0 = n := Fin.ext h0
  rw [e]
  refine congrArg (plane x n) (funext fun a => Fin.ext ?_)
  match a with
  | 0 => exact h1
  | 1 => exact h2 1 (by decide)
  | 2 => exact h2 2 (by decide)

/-- Row `511 - i + j` of the table, at column `d`. -/
def row (i : S512x512x512.Idx) : S1023x512.Idx :=
  ix2 (⟨511 - (i 0).val + (i 1).val, by have : (i 1).val < 512 := (i 1).isLt; omega⟩ : Fin 1023) (i 2)

/-- What the kernel computes. -/
theorem filled_stack (c : Dev nD) (x : S1023x512.Idx → Elt F .f32) (hx : m ((c : Thread nD τ).loc main_arg1) = x) :
    filled (V m c main_v16) = fun i => x (row i) := by
  funext i
  have hi : (i 0).val < 512 := (i 0).isLt
  unfold filled
  rw [stack_at m c x hx]
  refine congrArg x (funext fun a => Fin.ext ?_)
  match a with
  | 0 => show 7 - (i 0).val % 8 + (8 * (63 - (i 0).val / 8) + (i 1).val) = 511 - (i 0).val + (i 1).val; omega
  | 1 => rfl

end Cert.Proof.Stack
-- ==== Proof.Reference.lean ====
/-
  What the reference computes: the index `j - i + 511` is never negative and never past the table's last row, so the
  wrap of negative indices changes nothing, the mask of indices in range is set everywhere, and the gather reads the
  table's row `511 - i + j`.
-/
module

public import proofs.«01_k».proof.Proof.Gen.ReferenceIdeal.Run
public import Idealize.ShloMosaic.Lib.ValueIdx
public import Idealize.ShloMosaic.Lib.ReduceAll

@[expose] public section

noncomputable section

namespace Cert.Proof.Reference

open Cert.ReferenceIdeal Cert.ReferenceIdeal.Gen
open Idealize.ShloMosaic Idealize.ShloMosaic.TcCoe
open Idealize.ShloMosaic.ValueIdx

variable {F : FTy → Type} [FloatOps F]

/-! ## The index -/

/-- `j - i + 512 - 1`, as the reference builds it. -/
def word : IVec S512x512 32 :=
  subi (addi (subi (broadcastInDim S512x512 ![0, 1] bcast_S1x512_S512x512_0_1 (broadcastInDim S1x512 ![1] bcast_S512_S1x512_1 (iotaInDim S512 32 0)))
      (broadcastInDim S512x512 ![0, 1] bcast_S512x1_S512x512_0_1 (broadcastInDim S512x1 ![0] bcast_S512_S512x1_0 (iotaInDim S512 32 0))))
    (broadcastInDim S512x512 ![] bcast_S_S512x512 (constantI S_ 32 512#32))) (broadcastInDim S512x512 ![] bcast_S_S512x512 (constantI S_ 32 1#32))

/-- The row number at `(i, j)`. -/
def rowNo (i j : ℕ) : ℕ := 511 - i + j

theorem word_at (k : S512x512.Idx) : word k = BitVec.ofNat 32 (rowNo (k 0).val (k 1).val) := by
  have h0 : (k 0).val < 512 := (k 0).isLt
  have h1 : (k 1).val < 512 := (k 1).isLt
  have e : word k = BitVec.ofNat 32 (k 1).val - BitVec.ofNat 32 (k 0).val + 512#32 - 1#32 := rfl
  rw [e]
  apply BitVec.eq_of_toNat_eq
  unfold rowNo
  simp only [BitVec.toNat_sub, BitVec.toNat_add, BitVec.toNat_ofNat]
  omega

/-- A row number is not negative, and is in the table. -/
theorem rowNo_checks : ∀ r : Fin 1023, IntOp.cmpi .slt (BitVec.ofNat 32 r.val) 0#32 = 0#1 ∧ IntOp.cmpi .sge (BitVec.ofNat 32 r.val) 0#32 = 1#1
    ∧ IntOp.cmpi .sle (BitVec.ofNat 32 r.val) 1022#32 = 1#1 ∧ (BitVec.ofNat 32 r.val).toInt.toNat = r.val := by decide +kernel

theorem rowNo_lt (k : S512x512.Idx) : rowNo (k 0).val (k 1).val < 1023 := by
  have h1 : (k 1).val < 512 := (k 1).isLt
  unfold rowNo; omega

/-- The index with negative ones wrapped round. -/
def start : IVec S512x512 32 :=
  select (cmpi .slt word (broadcastInDim S512x512 ![] bcast_S_S512x512 (constantI S_ 32 0#32)))
    (addi word (broadcastInDim S512x512 ![] bcast_S_S512x512 (constantI S_ 32 1023#32))) word

theorem start_at (k : S512x512.Idx) : start k = BitVec.ofNat 32 (rowNo (k 0).val (k 1).val) := by
  show Scalar.select (IntOp.cmpi .slt (word k) 0#32) (IntOp.addi (word k) 1023#32) (word k) = _
  rw [word_at, (rowNo_checks ⟨_, rowNo_lt k⟩).1, select_zero]

/-- The gather's start indices. -/
def starts : IVec S512x512x1 32 := broadcastInDim S512x512x1 ![0, 1] bcast_S512x512_S512x512x1_0_1 start

theorem starts_at (k : S512x512x1.Idx) : starts k = BitVec.ofNat 32 (rowNo (k 0).val (k 1).val) := start_at (ix2 (k 0) (k 1))

/-- The mask of starts in range. -/
def mask : IVec S512x512 1 :=
    Host.reduce IntOp.andi (andi (cmpi .sge starts (broadcastInDim S512x512x1 ![] bcast_S_S512x512x1 (constantI S_ 32 0#32)))
      (cmpi .sle starts (broadcastInDim S512x512x1 ![0, 1, 2] bcast_S1x1x1_S512x512x1_0_1_2 (broadcastInDim S1x1x1 ![2] bcast_S1_S1x1x1_2 (constantI S1 32 1022#32)))))
      (constantI S_ 1 1#1) reducesTo_S512x512x1_S512x512_d2 h_S_

/-- It is set everywhere. -/
theorem mask_at (k : S512x512.Idx) : mask k = 1#1 := by
  refine Host.reduce_andi_one _ _ _ _ _ rfl fun j => ?_
  show IntOp.andi (IntOp.cmpi .sge (starts j) 0#32) (IntOp.cmpi .sle (starts j) 1022#32) = 1#1
  have h := rowNo_checks ⟨_, rowNo_lt (ix2 (j 0) (j 1))⟩
  rw [starts_at]
  exact (congrArg₂ IntOp.andi h.2.1 h.2.2.1).trans (by decide)

/-! ## The gather -/

/-- The gather of whole rows, read at an element: the row the start index names, the element's own column. -/
theorem gather_at {α : Type} (x : S1023x512.Idx → α) (idx : IVec S512x512x1 32) (i : S512x512x512.Idx) (n : Fin 1023)
    (h : (idx (ix3 (i 0) (i 1) 0)).toInt.toNat = n.val) :
    Host.gather gather_S1023x512_S512x512x1_S512x512x512_2_0_n_n_0_2_1512 x idx i = x (ix2 n (i 2)) := by
  let G := gather_S1023x512_S512x512x1_S512x512x512_2_0_n_n_0_2_1512
  unfold Host.gather
  refine congrArg x (funext fun a => Fin.ext ?_)
  show G.start i idx a + G.batchCoord i a + G.offCoord i a = _
  match a with
  | 0 =>
    rw [G.batchCoord_eq_zero _ _ List.not_mem_nil, G.offCoord_eq_zero _ _ (fun h => ((G.mem_sKept _).mp h).1 (List.mem_singleton.mpr rfl))]
    simp only [Nat.add_zero]
    unfold GatherDims.start
    rw [dif_pos (show (0 : Fin 2) ∈ G.startIndexMap from List.mem_singleton.mpr rfl)]
    have e : G.siIdx i ⟨List.idxOf (0 : Fin 2) G.startIndexMap, List.idxOf_lt_length_iff.2 (List.mem_singleton.mpr rfl)⟩ = ix3 (i 0) (i 1) 0 := by
      funext b; refine Fin.ext ?_
      match b with
      | 0 => rfl
      | 1 => rfl
      | 2 => rfl
    rw [e]
    exact (congrArg (fun r => min r 1022) h).trans (show min n.val 1022 = n.val by have := n.isLt; omega)
  | 1 =>
    rw [G.batchCoord_eq_zero _ _ List.not_mem_nil]
    unfold GatherDims.start
    rw [dif_neg (show ¬ (1 : Fin 2) ∈ G.startIndexMap from by decide)]
    show 0 + 0 + G.offCoord i 1 = (i 2).val
    rw [Nat.zero_add]
    rfl

/-! ## The result -/

/-- What the reference computes. -/
theorem result_eq (m : (ℓ : Loc nD τ sig) → Buf (Elt F) ℓ) (c : Dev nD) (x : S1023x512.Idx → Elt F .f32)
    (hx : m ((c.tc : Thread nD τ).loc main_arg1) = x) :
    Value.res_out0 m c = fun i => x (ix2 (⟨rowNo (i 0).val (i 1).val, rowNo_lt (ix2 (i 0) (i 1))⟩ : Fin 1023) (i 2)) := by
  subst hx
  have e : Value.res_out0 m c = select (broadcastInDim S512x512x512 ![0, 1] bcast_S512x512_S512x512x512_0_1 mask)
      (Host.gather gather_S1023x512_S512x512x1_S512x512x512_2_0_n_n_0_2_1512 (m ((c.tc : Thread nD τ).loc main_arg1)) starts)
      (broadcastInDim S512x512x512 ![] bcast_S_S512x512x512 (constant S_ .f32 0x7FC00000#32)) := rfl
  funext i
  rw [e]
  have hm : broadcastInDim S512x512x512 ![0, 1] bcast_S512x512_S512x512x512_0_1 mask i = 1#1 := by
    unfold broadcastInDim
    exact mask_at _
  unfold select
  dsimp only
  rw [hm, select_one]
  refine gather_at _ _ _ _ ?_
  rw [starts_at]
  exact (rowNo_checks ⟨_, rowNo_lt (ix2 (i 0) (i 1))⟩).2.2.2

end Cert.Proof.Reference
-- ==== Proof.lean ====
/- The claim, put together: the program's run at the machine's floats and at the ideal ones, the reference's run, and
   the equality of the two results, each of which is at every index an entry of the table the program was given. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Stack
public import proofs.«01_k».proof.Proof.Reference
public import Idealize.ShloMosaic.Adequacy
public import Idealize.ShloMosaic.Init

@[expose] public section

noncomputable section

namespace Cert.Proof

open Idealize.ShloMosaic Idealize.SL.Sem

/-- Every element type has a value, at the machine's floats, -/
theorem inhabited_bits : ∀ e, Nonempty (Elt Bits e) := fun _ => inferInstance

/-- and at the ideal ones. -/
theorem inhabited_ideal : ∀ e, Nonempty (Elt Ideal e) := fun _ => inferInstance

/-- The program at the machine's floats ends, its arguments as they were and its counters at zero. -/
theorem kernel_ends : Cert.quiescent_Kernel := fun m g _ =>
  haveI := inhabited_bits
  Same.run_kernel m g

/-- The program at the ideal floats ends, its arguments as they were and its counters at zero. -/
theorem ideal_ends : Cert.quiescent_KernelIdeal := fun m g _ =>
  haveI := inhabited_ideal
  (θ_run _ _ _).mono (fun _ h => ⟨fun c => (h.1 c).2, h.2⟩) (Run.run_main m g)

/-- The reference ends, its arguments as they were; it has no counters. -/
theorem reference_ends : Cert.quiescent_ReferenceIdeal := fun m g _ =>
  (θ_run _ _ _).mono (fun r h => ⟨fun c => (h c).2, sem_eq_zero_of_no_sems (by decide) r.2⟩)
    (Cert.ReferenceIdeal.Value.run m g)

/-- The program and the reference return the same array: at `(i, j, d)` the table's entry `(511 - i + j, d)`. -/
theorem results_agree : Cert.algebraic_KernelIdeal_ReferenceIdeal := by
  intro m g m' g' _ hagree
  haveI := inhabited_ideal
  refine ⟨fun c i => m ((c.tc : Thread Cert.KernelIdeal.nD Cert.KernelIdeal.τ).loc Cert.KernelIdeal.main_arg1) (Stack.row i),
    (θ_run _ _ _).mono (fun _ h c => ⟨(h.1 c).1.trans (Stack.filled_stack m c _ rfl), (h.1 c).2⟩) (Run.run_main m g),
    (θ_run _ _ _).mono (fun _ h c => ⟨((h c).1.trans (Reference.result_eq m' c _ (hagree c).2)).trans rfl, (h c).2⟩)
      (Cert.ReferenceIdeal.Value.run m' g')⟩

/-- The certificate's claim. -/
theorem claim : Cert.Claim :=
  ⟨Cert.Kernel.Gen.facts, Cert.KernelIdeal.Gen.facts, Cert.ReferenceIdeal.Gen.facts,
    kernel_ends, ideal_ends, reference_ends, trivial, results_agree⟩

end Cert.Proof

end
